-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_idx_is_arange [hPre_idx_is_arange : Cert.Pre_idx_is_arange.Facts] (m : (ℓ : Loc Cert.KernelIdeal.nD Cert.KernelIdeal.τ Cert.KernelIdeal.sig) → Buf (Elt Ideal) ℓ) : Prop :=
  ∀ c : Dev Cert.KernelIdeal.nD,
    (Cert.Pre_idx_is_arange.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_is_arange [hPre_idx_is_arange : Cert.Pre_idx_is_arange.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_is_arange.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_idx_is_arange [hKernelIdeal : Cert.KernelIdeal.Facts] [hPre_idx_is_arange : Cert.Pre_idx_is_arange.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_is_arange m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_idx_is_arange [hReferenceIdeal : Cert.ReferenceIdeal.Facts] [hPre_idx_is_arange : Cert.Pre_idx_is_arange.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_is_arange m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_idx_is_arange [hKernelIdeal : Cert.KernelIdeal.Facts] [hReferenceIdeal : Cert.ReferenceIdeal.Facts] [hPre_idx_is_arange : Cert.Pre_idx_is_arange.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_is_arange m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_idx_is_arange : Cert.Pre_idx_is_arange.Facts),
    quiescent_Kernel (hKernel := hKernel)
    ∧ quiescent_KernelIdeal (hKernelIdeal := hKernelIdeal)
    ∧ quiescent_KernelIdeal_pre_idx_is_arange (hKernelIdeal := hKernelIdeal) (hPre_idx_is_arange := hPre_idx_is_arange)
    ∧ quiescent_ReferenceIdeal (hReferenceIdeal := hReferenceIdeal)
    ∧ quiescent_ReferenceIdeal_pre_idx_is_arange (hReferenceIdeal := hReferenceIdeal) (hPre_idx_is_arange := hPre_idx_is_arange)
    ∧ preserves_Kernel_KernelIdeal
    ∧ algebraic_KernelIdeal_ReferenceIdeal_pre_idx_is_arange (hKernelIdeal := hKernelIdeal) (hReferenceIdeal := hReferenceIdeal) (hPre_idx_is_arange := hPre_idx_is_arange)
-- ==== Pre_idx_is_arange.lean ====
abbrev S512 : Shape := ⟨1, ![512]⟩
abbrev S1 : Shape := ⟨1, ![1]⟩
abbrev S16x512x2048 : Shape := ⟨3, ![16, 512, 2048]⟩
abbrev S512x16 : Shape := ⟨2, ![512, 16]⟩
abbrev S16x16 : Shape := ⟨2, ![16, 16]⟩
abbrev S16 : Shape := ⟨1, ![16]⟩
abbrev S2048x1 : Shape := ⟨2, ![2048, 1]⟩
abbrev S1x8x1 : Shape := ⟨3, ![1, 8, 1]⟩
abbrev S512x512 : Shape := ⟨2, ![512, 512]⟩
abbrev S_ : Shape := ⟨0, ![]⟩

class Facts : Prop where
  reducesTo_S512_S_d0 : S512.ReducesTo [0] S_
  h_S_ : 0 < S_.numel

variable [Facts]

def fn {F : FTy → Type} [FloatOps F] (main_arg0 : IVec S512 32) (main_arg1 : FVec F S1 .f32) (main_arg2 : FVec F S1 .f32) (main_arg3 : FVec F S1 .f32) (main_arg4 : IVec S1 1) (main_arg5 : FVec F S16x512x2048 .f32) (main_arg6 : FVec F S512x16 .f32) (main_arg7 : FVec F S512x16 .f32) (main_arg8 : FVec F S16x16 .f32) (main_arg9 : FVec F S16 .f32) (main_arg10 : FVec F S16x16 .f32) (main_arg11 : FVec F S16 .f32) (main_arg12 : FVec F S2048x1 .f32) (main_arg13 : FVec F S1 .f32) (main_arg14 : FVec F S1x8x1 .f32) (main_arg15 : FVec F S512x512 .f32) : IVec S_ 1 :=
  let main_v0 : IVec S512 32 := iotaInDim S512 32 0
  let main_v1 : IVec S512 1 := cmpi .eq main_arg0 main_v0
  let main_c : IVec S_ 1 := constantI S_ 1 1#1
  let main_v2 : IVec S_ 1 := (fun x v => Host.reduce IntOp.andi x v reducesTo_S512_S_d0 h_S_) main_v1 main_c
  main_v2
-- ==== Kernel.lean ====
abbrev S512 : Shape := ⟨1, ![512]⟩
abbrev S1 : Shape := ⟨1, ![1]⟩
abbrev S16x512x2048 : Shape := ⟨3, ![16, 512, 2048]⟩
abbrev S512x16 : Shape := ⟨2, ![512, 16]⟩
abbrev S16x16 : Shape := ⟨2, ![16, 16]⟩
abbrev S16 : Shape := ⟨1, ![16]⟩
abbrev S2048x1 : Shape := ⟨2, ![2048, 1]⟩
abbrev S1x8x1 : Shape := ⟨3, ![1, 8, 1]⟩
abbrev S512x512 : Shape := ⟨2, ![512, 512]⟩
abbrev S1x16 : Shape := ⟨2, ![1, 16]⟩
abbrev S1x1 : Shape := ⟨2, ![1, 1]⟩
abbrev S4x8x1 : Shape := ⟨3, ![4, 8, 1]⟩
abbrev S16x2048x8 : Shape := ⟨3, ![16, 2048, 8]⟩
abbrev S4x512x2048 : Shape := ⟨3, ![4, 512, 2048]⟩
abbrev S4x2048x8 : Shape := ⟨3, ![4, 2048, 8]⟩
abbrev S2048x2048 : Shape := ⟨2, ![2048, 2048]⟩
abbrev S2048x1024 : Shape := ⟨2, ![2048, 1024]⟩
abbrev S1024x1 : Shape := ⟨2, ![1024, 1]⟩
abbrev S4x1x512 : Shape := ⟨3, ![4, 1, 512]⟩
abbrev S4x8x512 : Shape := ⟨3, ![4, 8, 512]⟩
abbrev S32x512 : Shape := ⟨2, ![32, 512]⟩
abbrev S4x512 : Shape := ⟨2, ![4, 512]⟩
abbrev S1x8x512 : Shape := ⟨3, ![1, 8, 512]⟩
abbrev S8x512 : Shape := ⟨2, ![8, 512]⟩
abbrev S1x512x2048 : Shape := ⟨3, ![1, 512, 2048]⟩
abbrev S512x2048 : Shape := ⟨2, ![512, 2048]⟩
abbrev S8x2048 : Shape := ⟨2, ![8, 2048]⟩
abbrev S2048x8 : Shape := ⟨2, ![2048, 8]⟩
abbrev S1x2048x8 : Shape := ⟨3, ![1, 2048, 8]⟩

abbrev nBuf : Space → Nat
  | .hbm => 21
  | .vmem => 14
  | .smem => 0
  | _ => 0

abbrev bufTy : (tb : Table) → Fin (tcTables nBuf tb) → BufTy
  | .hbm, ⟨0, _⟩ => ⟨S512, .i32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S1, .i1⟩
  | .hbm, ⟨5, _⟩ => ⟨S16x512x2048, .f32⟩
  | .hbm, ⟨6, _⟩ => ⟨S512x16, .f32⟩
  | .hbm, ⟨7, _⟩ => ⟨S512x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S2048x1, .f32⟩
  | .hbm, ⟨13, _⟩ => ⟨S1, .f32⟩
  | .hbm, ⟨14, _⟩ => ⟨S1x8x1, .f32⟩
  | .hbm, ⟨15, _⟩ => ⟨S512x512, .f32⟩
  | .hbm, ⟨16, _⟩ => ⟨S1x16, .f32⟩
  | .hbm, ⟨17, _⟩ => ⟨S1x16, .f32⟩
  | .hbm, ⟨18, _⟩ => ⟨S1x1, .f32⟩
  | .hbm, ⟨19, _⟩ => ⟨S4x8x1, .f32⟩
  | .hbm, ⟨20, _⟩ => ⟨S16x2048x8, .f32⟩
  | .local _ .vmem, ⟨0, _⟩ => ⟨S512x16, .f32⟩
  | .local _ .vmem, ⟨1, _⟩ => ⟨S512x16, .f32⟩
  | .local _ .vmem, ⟨2, _⟩ => ⟨S16x16, .f32⟩
  | .local _ .vmem, ⟨3, _⟩ => ⟨S1x16, .f32⟩
  | .local _ .vmem, ⟨4, _⟩ => ⟨S16x16, .f32⟩
  | .local _ .vmem, ⟨5, _⟩ => ⟨S1x16, .f32⟩
  | .local _ .vmem, ⟨6, _⟩ => ⟨S2048x1, .f32⟩
  | .local _ .vmem, ⟨7, _⟩ => ⟨S1x1, .f32⟩
  | .local _ .vmem, ⟨8, _⟩ => ⟨S4x8x1, .f32⟩
  | .local _ .vmem, ⟨9, _⟩ => ⟨S4x512x2048, .f32⟩
  | .local _ .vmem, ⟨10, _⟩ => ⟨S4x512x2048, .f32⟩
  | .local _ .vmem, ⟨11, _⟩ => ⟨S4x2048x8, .f32⟩
  | .local _ .vmem, ⟨12, _⟩ => ⟨S4x2048x8, .f32⟩
  | .local _ .vmem, ⟨13, _⟩ => ⟨S512x512, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2048x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S512 : Shape := ⟨1, ![512]⟩
abbrev S1 : Shape := ⟨1, ![1]⟩
abbrev S16x512x2048 : Shape := ⟨3, ![16, 512, 2048]⟩
abbrev S512x16 : Shape := ⟨2, ![512, 16]⟩
abbrev S16x16 : Shape := ⟨2, ![16, 16]⟩
abbrev S16 : Shape := ⟨1, ![16]⟩
abbrev S2048x1 : Shape := ⟨2, ![2048, 1]⟩
abbrev S1x8x1 : Shape := ⟨3, ![1, 8, 1]⟩
abbrev S512x512 : Shape := ⟨2, ![512, 512]⟩
abbrev S_ : Shape := ⟨0, ![]⟩
abbrev S512x1 : Shape := ⟨2, ![512, 1]⟩
abbrev S1x1 : Shape := ⟨2, ![1, 1]⟩
abbrev S1x16 : Shape := ⟨2, ![1, 16]⟩
abbrev S16x512 : Shape := ⟨2, ![16, 512]⟩
abbrev S512x512x1 : Shape := ⟨3, ![512, 512, 1]⟩
abbrev S512x512x2 : Shape := ⟨3, ![512, 512, 2]⟩
abbrev S8192x2048 : Shape := ⟨2, ![8192, 2048]⟩
abbrev S8192x1 : Shape := ⟨2, ![8192, 1]⟩
abbrev S16x1x512x1 : Shape := ⟨4, ![16, 1, 512, 1]⟩
abbrev S1x8x16x512 : Shape := ⟨4, ![1, 8, 16, 512]⟩
abbrev S16x1x512x8 : Shape := ⟨4, ![16, 1, 512, 8]⟩
abbrev S16x512x8 : Shape := ⟨3, ![16, 512, 8]⟩
abbrev S16x8x512 : Shape := ⟨3, ![16, 8, 512]⟩
abbrev S16x512x1 : Shape := ⟨3, ![16, 512, 1]⟩
abbrev S16x2048x8 : Shape := ⟨3, ![16, 2048, 8]⟩

abbrev nBuf : Space → Nat
  | .hbm => 149
  | .vmem => 0
  | .smem => 0
  | _ => 0

abbrev hbmTy0_0 (i : Nat) : BufTy := match i % 128 with
  | 0 => ⟨S512, .i32⟩
  | 1 => ⟨S1, .f32⟩
  | 2 => ⟨S1, .f32⟩
  | 3 => ⟨S1, .f32⟩
  | 4 => ⟨S1, .i1⟩
  | 5 => ⟨S16x512x2048, .f32⟩
  | 6 => ⟨S512x16, .f32⟩
  | 7 => ⟨S512x16, .f32⟩
  | 8 => ⟨S16x16, .f32⟩
  | 9 => ⟨S16, .f32⟩
  | 10 => ⟨S16x16, .f32⟩
  | 11 => ⟨S16, .f32⟩
  | 12 => ⟨S2048x1, .f32⟩
  | 13 => ⟨S1, .f32⟩
  | 14 => ⟨S1x8x1, .f32⟩
  | 15 => ⟨S512x512, .f32⟩
  | 16 => ⟨S_, .i32⟩
  | 17 => ⟨S512, .i32⟩
  | 18 => ⟨S512, .i1⟩
  | 19 => ⟨S_, .i32⟩
  | 20 => ⟨S512, .i32⟩
  | 21 => ⟨S512, .i32⟩
  | 22 => ⟨S512, .i32⟩
  | 23 => ⟨S512x1, .i32⟩
  | 24 => ⟨S1, .i32⟩
  | 25 => ⟨S_, .i32⟩
  | 26 => ⟨S512x1, .i32⟩
  | 27 => ⟨S512x1, .i1⟩
  | 28 => ⟨S1x1, .i32⟩
  | 29 => ⟨S512x1, .i32⟩
  | 30 => ⟨S512x1, .i1⟩
  | 31 => ⟨S512x1, .i1⟩
  | 32 => ⟨S_, .i1⟩
  | 33 => ⟨S512, .i1⟩
  | 34 => ⟨S512x16, .f32⟩
  | 35 => ⟨S512x16, .i1⟩
  | 36 => ⟨S_, .f32⟩
  | 37 => ⟨S512x16, .f32⟩
  | 38 => ⟨S512x16, .f32⟩
  | 39 => ⟨S512x16, .f32⟩
  | 40 => ⟨S1x16, .f32⟩
  | 41 => ⟨S512x16, .f32⟩
  | 42 => ⟨S512x16, .f32⟩
  | 43 => ⟨S_, .f32⟩
  | 44 => ⟨S512x16, .f32⟩
  | 45 => ⟨S512x16, .f32⟩
  | 46 => ⟨S512x16, .f32⟩
  | 47 => ⟨S_, .i32⟩
  | 48 => ⟨S512, .i32⟩
  | 49 => ⟨S512, .i1⟩
  | 50 => ⟨S_, .i32⟩
  | 51 => ⟨S512, .i32⟩
  | 52 => ⟨S512, .i32⟩
  | 53 => ⟨S512, .i32⟩
  | 54 => ⟨S512x1, .i32⟩
  | 55 => ⟨S1, .i32⟩
  | 56 => ⟨S_, .i32⟩
  | 57 => ⟨S512x1, .i32⟩
  | 58 => ⟨S512x1, .i1⟩
  | 59 => ⟨S1x1, .i32⟩
  | 60 => ⟨S512x1, .i32⟩
  | 61 => ⟨S512x1, .i1⟩
  | 62 => ⟨S512x1, .i1⟩
  | 63 => ⟨S_, .i1⟩
  | 64 => ⟨S512, .i1⟩
  | 65 => ⟨S512x16, .f32⟩
  | 66 => ⟨S512x16, .i1⟩
  | 67 => ⟨S_, .f32⟩
  | 68 => ⟨S512x16, .f32⟩
  | 69 => ⟨S512x16, .f32⟩
  | 70 => ⟨S512x16, .f32⟩
  | 71 => ⟨S1x16, .f32⟩
  | 72 => ⟨S512x16, .f32⟩
  | 73 => ⟨S512x16, .f32⟩
  | 74 => ⟨S_, .f32⟩
  | 75 => ⟨S512x16, .f32⟩
  | 76 => ⟨S512x16, .f32⟩
  | 77 => ⟨S512x16, .f32⟩
  | 78 => ⟨S16x512, .f32⟩
  | 79 => ⟨S512x512, .f32⟩
  | 80 => ⟨S16x512, .f32⟩
  | 81 => ⟨S512x512, .f32⟩
  | 82 => ⟨S512x512, .f32⟩
  | 83 => ⟨S_, .f32⟩
  | 84 => ⟨S512x512, .f32⟩
  | 85 => ⟨S512x512, .f32⟩
  | 86 => ⟨S512x512, .f32⟩
  | 87 => ⟨S_, .f32⟩
  | 88 => ⟨S512x512, .f32⟩
  | 89 => ⟨S512x512, .f32⟩
  | 90 => ⟨S512x512, .f32⟩
  | 91 => ⟨S512x512, .f32⟩
  | 92 => ⟨S512x512, .i32⟩
  | 93 => ⟨S_, .f32⟩
  | 94 => ⟨S512x512, .f32⟩
  | 95 => ⟨S512, .i32⟩
  | 96 => ⟨S512x1, .i32⟩
  | 97 => ⟨S_, .i32⟩
  | 98 => ⟨S512x1, .i32⟩
  | 99 => ⟨S512x1, .i1⟩
  | 100 => ⟨S_, .i32⟩
  | 101 => ⟨S512x1, .i32⟩
  | 102 => ⟨S512x1, .i32⟩
  | 103 => ⟨S512x1, .i32⟩
  | 104 => ⟨S_, .i32⟩
  | 105 => ⟨S512x512, .i32⟩
  | 106 => ⟨S512x512, .i1⟩
  | 107 => ⟨S_, .i32⟩
  | 108 => ⟨S512x512, .i32⟩
  | 109 => ⟨S512x512, .i32⟩
  | 110 => ⟨S512x512, .i32⟩
  | 111 => ⟨S512x512, .i32⟩
  | 112 => ⟨S512x512x1, .i32⟩
  | 113 => ⟨S512x512x1, .i32⟩
  | 114 => ⟨S512x512x2, .i32⟩
  | 115 => ⟨S_, .f32⟩
  | 116 => ⟨S512x512, .f32⟩
  | 117 => ⟨S512x512, .f32⟩
  | 118 => ⟨S512x512, .f32⟩
  | 119 => ⟨S8192x2048, .f32⟩
  | 120 => ⟨S8192x1, .f32⟩
  | 121 => ⟨S1x1, .f32⟩
  | 122 => ⟨S8192x1, .f32⟩
  | 123 => ⟨S8192x1, .f32⟩
  | 124 => ⟨S8192x1, .f32⟩
  | 125 => ⟨S16x1x512x1, .f32⟩
  | 126 => ⟨S1x8x16x512, .f32⟩
  | 127 => ⟨S16x1x512x8, .f32⟩
  | _ => ⟨S512, .i32⟩

abbrev hbmTy0_1 (i : Nat) : BufTy := match i % 128 with
  | 0 => ⟨S_, .f32⟩
  | 1 => ⟨S16x1x512x8, .f32⟩
  | 2 => ⟨S16x1x512x8, .f32⟩
  | 3 => ⟨S16x512x8, .f32⟩
  | 4 => ⟨S16x8x512, .f32⟩
  | 5 => ⟨S16x512x8, .f32⟩
  | 6 => ⟨S_, .f32⟩
  | 7 => ⟨S16x512, .f32⟩
  | 8 => ⟨S_, .f32⟩
  | 9 => ⟨S16x512, .f32⟩
  | 10 => ⟨S16x512, .f32⟩
  | 11 => ⟨S16x512x1, .f32⟩
  | 12 => ⟨S16x512x8, .f32⟩
  | 13 => ⟨S16x512x8, .f32⟩
  | 14 => ⟨S16x512x8, .f32⟩
  | 15 => ⟨S_, .f32⟩
  | 16 => ⟨S16x512, .f32⟩
  | 17 => ⟨S16x512x1, .f32⟩
  | 18 => ⟨S16x512x8, .f32⟩
  | 19 => ⟨S16x512x8, .f32⟩
  | 20 => ⟨S16x2048x8, .f32⟩
  | _ => ⟨S512, .i32⟩

abbrev hbmTy (i : Nat) : BufTy := match i / 128 with
  | 0 => hbmTy0_0 i
  | 1 => hbmTy0_1 i
  | _ => ⟨S512, .i32⟩

abbrev bufTy : (tb : Table) → Fin (tcTables nBuf tb) → BufTy
  | .hbm, ⟨i, _⟩ => hbmTy i
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_cst_0 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_cst_1 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_cst_2 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_values : Ref sig .tc := ⟨.hbm, 91, rfl⟩
abbrev main_indices : Ref sig .tc := ⟨.hbm, 92, rfl⟩
abbrev main_cst_3 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_c : Ref sig .tc := ⟨.hbm, 97, rfl⟩
abbrev main_v30 : Ref sig .tc := ⟨.hbm, 98, rfl⟩
abbrev main_v31 : Ref sig .tc := ⟨.hbm, 99, rfl⟩
abbrev main_c_4 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_c_5 : Ref sig .tc := ⟨.hbm, 104, rfl⟩
abbrev main_v35 : Ref sig .tc := ⟨.hbm, 105, rfl⟩
abbrev main_v36 : Ref sig .tc := ⟨.hbm, 106, rfl⟩
abbrev main_c_6 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_cst_7 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_call2_cst : Ref sig .tc := ⟨.hbm, 128, rfl⟩
abbrev main_call2_v0 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_cst_8 : Ref sig .tc := ⟨.hbm, 134, rfl⟩
abbrev main_v60 : Ref sig .tc := ⟨.hbm, 135, rfl⟩
abbrev main_cst_9 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_cst_10 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩

abbrev nD : Nat := 1
abbrev τ : Topo := Topo.v7x

variable {F : FTy → Type} [FloatOps F]
-- ==== Proof.Spec.lean ====
/- What the kernel and the reference both compute, on extended reals, for one batch of the series at a time.

   Two tables of node embeddings go through a linear layer and a tanh; the antisymmetric part of their products, through a
   tanh, is the 512 x 512 adjacency. Each batch's series is folded over time to one feature per node; eight heads weigh the
   features, mix them along the adjacency, and a softmax over the heads says how much of each node goes to each head. The
   result is the series of each head: the nodes' series summed with those weights. -/
module

public import Idealize.ShloMosaic.PureOps.Ideal
public import Idealize.ShloMosaic.PureOps.Ideal.Laws

@[expose] public section

noncomputable section

open scoped BigOperators

namespace Cert.GraphHeads

open Idealize.ShloMosaic

/-- The saturation slope, 3. -/
def slope : EReal := Ideal.ofBits .f32 0x40400000#32

/-- Where a maximum starts. -/
def floorVal : EReal := Ideal.ofBits .f32 0xFF800000#32

/-- A node's vector: its embedding through a linear layer, a slope and a tanh. -/
def nodeVec (emb : Fin 512 → Fin 16 → EReal) (w : Fin 16 → Fin 16 → EReal) (b : Fin 16 → EReal) (n : Fin 512) (k : Fin 16) : EReal :=
  Ideal.tanh (slope * (∑ m, emb n m * w m k + b k))

/-- The products of two node tables. -/
def products (p q : Fin 512 → Fin 16 → EReal) (i j : Fin 512) : EReal := ∑ k, p i k * q j k

/-- The adjacency of two node tables. -/
def adjacency (p q : Fin 512 → Fin 16 → EReal) (i j : Fin 512) : EReal := Ideal.tanh (slope * (products p q i j - products p q j i))

/-- A node's feature in one batch: its series folded over time. -/
def feature (x : Fin 512 → Fin 2048 → EReal) (w : Fin 2048 → EReal) (b : EReal) (n : Fin 512) : EReal :=
  Ideal.tanh (∑ s, x n s * w s + b)

/-- A head's score of a node: the head's rectified features mixed along the adjacency. -/
def score (sel : Fin 8 → EReal) (f : Fin 512 → EReal) (A : Fin 512 → Fin 512 → EReal) (h : Fin 8) (m : Fin 512) : EReal :=
  ∑ l, max (sel h * f l) 0 * A l m

/-- The greatest score of a node over the heads. -/
def topScore (sc : Fin 8 → Fin 512 → EReal) (m : Fin 512) : EReal := (Finset.univ : Finset (Fin 8)).fold max floorVal fun h => sc h m

/-- The exponential of a score below the greatest. -/
def expScore (sc : Fin 8 → Fin 512 → EReal) (h : Fin 8) (m : Fin 512) : EReal := Ideal.exp (sc h m - topScore sc m)

/-- The softmax over the heads. -/
def weight (sc : Fin 8 → Fin 512 → EReal) (h : Fin 8) (m : Fin 512) : EReal := Ideal.div (expScore sc h m) (∑ h', expScore sc h' m)

/-- A head's series: the nodes' series summed with the head's weights. -/
def headSeries (x : Fin 512 → Fin 2048 → EReal) (w : Fin 8 → Fin 512 → EReal) (s : Fin 2048) (h : Fin 8) : EReal := ∑ m, x m s * w h m

/-- The result for one batch. -/
def result (x : Fin 512 → Fin 2048 → EReal) (mlpw : Fin 2048 → EReal) (mlpb : EReal) (sel : Fin 8 → EReal) (A : Fin 512 → Fin 512 → EReal) :
    Fin 2048 → Fin 8 → EReal :=
  headSeries x (weight (score sel (feature x mlpw mlpb) A))

/-- Starting a maximum again from where it started changes nothing. -/
theorem max_floor_topScore (sc : Fin 8 → Fin 512 → EReal) (m : Fin 512) : max floorVal (topScore sc m) = topScore sc m :=
  max_eq_right ((Finset.le_fold_max floorVal).2 (Or.inl le_rfl))

end Cert.GraphHeads

end
-- ==== Proof.Take.lean ====
/- The reference looks the node embeddings up with `jnp.take(table, idx)`. Where `idx` is `arange(512)` the lookup gives the
   table back: row `n` is in range, so it is row `n` of the table and not the fill value. -/
module

public import proofs.«01_k».proof.Proof.Gen.ReferenceIdeal.Read
public import proofs.«01_k».proof.Proof.Gen.Pre_idx_is_arange
public import Idealize.ShloMosaic.Lib.ReduceAll
public import Idealize.ShloMosaic.Lib.WordCmp
public import Idealize.ShloMosaic.Lib.Routing.Ops
public import Idealize.ShloMosaic.Lib.StableHlo.Predicate

@[expose] public section

noncomputable section

namespace Cert.GraphHeads

open Idealize.ShloMosaic Idealize.ShloMosaic.ValueIdx Cert.ReferenceIdeal Cert.ReferenceIdeal.Gen Cert.ReferenceIdeal.Read

/-- The table of node numbers holds `n` at position `n`. -/
def IsArange (x0 : (⟨S512, .i32⟩ : BufTy).Contents (Elt Ideal)) : Prop := ∀ n : S512.Idx, x0 n = BitVec.ofNat 32 (n 0).val

/-- The precondition `idx_is_arange` says that `idx` is `arange(512)`. -/
theorem isArange_of_pre (a0 : IVec Cert.Pre_idx_is_arange.S512 32) (h : ∀ j, Host.reduce IntOp.andi (cmpi .eq a0 (iotaInDim Cert.Pre_idx_is_arange.S512 32 0))
      (constantI Cert.Pre_idx_is_arange.S_ 1 1#1) Cert.Pre_idx_is_arange.Gen.facts.reducesTo_S512_S_d0 Cert.Pre_idx_is_arange.Gen.facts.h_S_ j = 1#1) :
    IsArange a0 := by
  intro n
  haveI : Subsingleton Cert.Pre_idx_is_arange.S_.Idx := ⟨fun a b => funext fun k => k.elim0⟩
  have e := Host.reduce_andi_all _ _ _ _ ix0 (h ix0) n
  exact StableHlo.Predicate.cmpi_eq_iff.1 e

/-- A word below 512 is not negative: jnp's wrap of a negative index leaves it. -/
theorem wrap_small (n : Nat) (hn : n < 512) (y : BitVec 32) :
    Scalar.select (IntOp.cmpi .slt (BitVec.ofNat 32 n) 0#32) y (BitVec.ofNat 32 n) = BitVec.ofNat 32 n := by
  rw [WordCmp.cmpi_slt_zero, WordCmp.select_decide, if_neg]
  rw [BitVec.toNat_ofNat]
  omega

variable {x0 : (⟨S512, .i32⟩ : BufTy).Contents (Elt Ideal)}

/-- The wrapped node number is the node number. -/
theorem take_word (h : IsArange x0) (i : S512x1.Idx) : val_main_call0_v5 (F := Ideal) x0 i = BitVec.ofNat 32 (i 0).val := by
  rw [val_main_call0_v5_apply, val_main_call0_v4_apply, val_main_call0_v1_apply, val_main_call0_v0_apply, val_main_call0_c_apply, h]
  exact wrap_small _ (i 0).isLt _

/-- Every node number passes the range check. -/
theorem take_in_range (h : IsArange x0) (i : S512x1.Idx) : val_main_call0_v11 (F := Ideal) x0 i = 1#1 := by
  have hb : ((i 0).val) < 512 := (i 0).isLt
  rw [val_main_call0_v11_apply, val_main_call0_v7_apply, val_main_call0_v10_apply, take_word h, val_main_call0_v6_apply, val_main_call0_c_2_apply,
    val_main_call0_v9_apply, val_main_call0_v8_apply, val_main_call0_c_1_apply]
  have h1 : IntOp.cmpi .sge (BitVec.ofNat 32 (i 0).val) 0#32 = 1#1 := by
    rw [StableHlo.Predicate.sge_iff_toNat (by rw [BitVec.toNat_ofNat]; omega) (by decide)]
    exact Nat.zero_le _
  have h2 : IntOp.cmpi .sle (BitVec.ofNat 32 (i 0).val) 511#32 = 1#1 := by
    rw [StableHlo.Predicate.sle_iff_toNat (by rw [BitVec.toNat_ofNat]; omega) (by decide), BitVec.toNat_ofNat]
    show _ ≤ 511
    omega
  rw [h1, h2]
  rfl

/-- The lookup in a table of 512 rows gives the table back. -/
theorem take_first (h : IsArange x0) (tab : (⟨S512x16, .f32⟩ : BufTy).Contents (Elt Ideal)) : val_main_v0 (F := Ideal) x0 tab = tab := by
  funext i
  have e12 : val_main_call0_v14 (F := Ideal) x0 i = 1#1 := by
    rw [val_main_call0_v14_apply]
    exact Host.reduce_andi_one _ _ _ _ _ rfl (take_in_range h)
  have e13 : val_main_call0_v13 (F := Ideal) x0 tab i = tab i := by
    conv_lhs => rw [eq_ix2 i]
    conv_rhs => rw [eq_ix2 i]
    exact Routing.gather_row gather_S512x16_S512x1_S512x16_1_0_n_n_0_1_116 rfl rfl rfl rfl rfl _ _ (i 0) (i 1) (i 0) (take_word h _) (by norm_num)
  rw [val_main_v0_apply, e12, e13]
  rfl

/-- The second lookup is the same function as the first. -/
theorem take_second (h : IsArange x0) (tab : (⟨S512x16, .f32⟩ : BufTy).Contents (Elt Ideal)) : val_main_v8 (F := Ideal) x0 tab = tab :=
  (rfl : val_main_v8 (F := Ideal) x0 tab = val_main_v0 (F := Ideal) x0 tab).trans (take_first h tab)

end Cert.GraphHeads

end
-- ==== Proof.Mask.lean ====
/- The reference keeps, of each row of the adjacency, the entries that `jax.lax.top_k(row, 512)` names, through a mask it
   scatters ones into. A row has 512 entries: the 512 greatest are all of them, whatever order the values put them in, so the
   mask is one everywhere and multiplying by it changes nothing. -/
module

public import proofs.«01_k».proof.Proof.Take
public import Idealize.ShloMosaic.Lib.SortFacts
public import Idealize.ShloMosaic.Lib.IdealHost
public import Idealize.ShloMosaic.Lib.Routing.OpsSet
public import Idealize.ShloMosaic.Lib.Routing.OpsPair

@[expose] public section

noncomputable section

namespace Cert.GraphHeads

open Idealize.ShloMosaic Idealize.ShloMosaic.ValueIdx Cert.ReferenceIdeal Cert.ReferenceIdeal.Gen Cert.ReferenceIdeal.Read

/-- A slice at offset zero of the whole shape is the array. -/
theorem slice_whole {α : Type} {s : Shape} (y : s.Idx → α) (h : s.Slices (fun _ => 0) s) : extractStridedSlice s (fun _ => 0) y h = y := by
  funext j
  unfold extractStridedSlice
  exact congrArg y (funext fun a => Fin.ext (Nat.zero_add _))

/-- The positions that a full-length `top_k` of the rows names: entry `(r, j)` is a position of row `r`, and every position
    of the row is named by some `j`. -/
theorem topK_positions {α : Type} (x : S512x512.Idx → α) (h : S512x512.Slices (fun _ => 0) S512x512) (gt : α → α → BitVec 1) :
    ∃ σ : Fin 512 → Fin 512 → Fin 512, (∀ r, Function.Surjective (σ r)) ∧
      ∀ r j, (Host.topK S512x512 1 gt x h).2 (ix2 r j) = BitVec.ofNat 32 (σ r j).val := by
  let before (r : Fin 512) : Fin 512 → Fin 512 → Bool := fun k k' => gt (x (ix2 r k)) (x (ix2 r k')) == 1#1
  refine ⟨fun r j => sortedFrom (before r) j, fun r => sortedFrom_surjective _, fun r j => ?_⟩
  have along (k : Fin 512) : (ix2 r j : S512x512.Idx).along (1 : Fin 2) k = ix2 r k := by
    funext a
    match a with
    | ⟨0, _⟩ => rfl
    | ⟨1, _⟩ => rfl
  have word (k : Fin 512) : iotaInDim S512x512 32 (1 : Fin 2) ((ix2 r j : S512x512.Idx).along (1 : Fin 2) k) = BitVec.ofNat 32 k.val := by
    rw [along]
    rfl
  have hbefore : (fun k k' : Fin 512 => gt (x ((ix2 r j : S512x512.Idx).along (1 : Fin 2) k)) (x ((ix2 r j : S512x512.Idx).along (1 : Fin 2) k')) == 1#1)
      = before r := by
    funext k k'
    rw [along, along]
  have hslice : (Host.topK S512x512 1 gt x h).2 = extractStridedSlice S512x512 (fun _ => 0) (Host.sort2 S512x512 1 (fun l r => gt l.1 r.1) x
      (fun i => if hd : 1 < S512x512.rank then iotaInDim S512x512 32 ⟨1, hd⟩ i else 0#32)).2 h := rfl
  rw [hslice, slice_whole]
  refine Eq.trans (word (sortedFrom (fun k k' : Fin 512 =>
    gt (x ((ix2 r j : S512x512.Idx).along (1 : Fin 2) k)) (x ((ix2 r j : S512x512.Idx).along (1 : Fin 2) k')) == 1#1) j)) ?_
  rw [hbefore]

variable {x0 : (⟨S512, .i32⟩ : BufTy).Contents (Elt Ideal)} {x6 x7 : (⟨S512x16, .f32⟩ : BufTy).Contents (Elt Ideal)}
  {x8 : (⟨S16x16, .f32⟩ : BufTy).Contents (Elt Ideal)} {x9 : (⟨S16, .f32⟩ : BufTy).Contents (Elt Ideal)}
  {x10 : (⟨S16x16, .f32⟩ : BufTy).Contents (Elt Ideal)} {x11 : (⟨S16, .f32⟩ : BufTy).Contents (Elt Ideal)}
  {x15 : (⟨S512x512, .f32⟩ : BufTy).Contents (Elt Ideal)}

/-- Two columns of words side by side: the first column. -/
theorem pair_words_left (u v : IVec S512x512x1 32) (h : Shape.Concatenates [S512x512x1, S512x512x1] S512x512x2 2) (r j : Fin 512) :
    concatenate S512x512x2 2 [⟨S512x512x1, u⟩, ⟨S512x512x1, v⟩] h (ix3 r j 0) = u (ix3 r j 0) :=
  concatenate_pair_apply_left (t := S512x512x2) (s₁ := S512x512x1) (s₂ := S512x512x1) 2 u v h (ix3 r j 0) rfl (ix3 r j 0) (fun b => by
    match b with
    | ⟨0, _⟩ => rfl
    | ⟨1, _⟩ => rfl
    | ⟨2, _⟩ => rfl)

/-- Two columns of words side by side: the second column. -/
theorem pair_words_right (u v : IVec S512x512x1 32) (h : Shape.Concatenates [S512x512x1, S512x512x1] S512x512x2 2) (r j : Fin 512) :
    concatenate S512x512x2 2 [⟨S512x512x1, u⟩, ⟨S512x512x1, v⟩] h (ix3 r j 1) = v (ix3 r j 0) :=
  concatenate_pair_apply_right (t := S512x512x2) (s₁ := S512x512x1) (s₂ := S512x512x1) 2 u v h (ix3 r j 1) rfl rfl (ix3 r j 0) (fun b hb => by
    match b with
    | ⟨0, _⟩ => rfl
    | ⟨1, _⟩ => rfl
    | ⟨2, _⟩ => exact absurd rfl hb) rfl

/-- The row words the ones are scattered at: entry `(r, j)` has row `r`. -/
theorem scatter_row_word (r j : Fin 512) : val_main_v43 (F := Ideal) x0 x6 x7 x8 x9 x10 x11 x15 (ix3 r j 0) = BitVec.ofNat 32 r.val := by
  have e : val_main_v43 (F := Ideal) x0 x6 x7 x8 x9 x10 x11 x15 (ix3 r j 0) = val_main_v41 (F := Ideal) (ix3 r j 0) := by
    unfold val_main_v43
    exact pair_words_left _ _ _ r j
  rw [e, val_main_v41_apply, val_main_v40_apply, val_main_v34_apply, val_main_v31_apply, val_main_v29_apply, val_main_v28_apply, val_main_v30_apply,
    val_main_c_apply]
  exact wrap_small _ r.isLt _

/-- The column words are the `top_k` positions. -/
theorem scatter_col_word (r j p : Fin 512) (hp : val_main_indices (F := Ideal) x0 x6 x7 x8 x9 x10 x11 x15 (ix2 r j) = BitVec.ofNat 32 p.val) :
    val_main_v43 (F := Ideal) x0 x6 x7 x8 x9 x10 x11 x15 (ix3 r j 1) = BitVec.ofNat 32 p.val := by
  have e : val_main_v43 (F := Ideal) x0 x6 x7 x8 x9 x10 x11 x15 (ix3 r j 1) = val_main_v42 (F := Ideal) x0 x6 x7 x8 x9 x10 x11 x15 (ix3 r j 0) := by
    unfold val_main_v43
    exact pair_words_right _ _ _ r j
  have hi : idx_main_v42 (ix3 r j 0) = ix2 r j := by
    funext a
    match a with
    | ⟨0, _⟩ => rfl
    | ⟨1, _⟩ => rfl
  rw [e, val_main_v42_apply, hi, val_main_v39_apply, val_main_v36_apply, hp, val_main_v35_apply, val_main_c_5_apply]
  exact wrap_small _ p.isLt _

/-- The mask is one everywhere. -/
theorem mask_one (i : S512x512.Idx) : val_main_v45 (F := Ideal) x0 x6 x7 x8 x9 x10 x11 x15 i = (1 : EReal) := by
  obtain ⟨σ, hσ, hw⟩ := topK_positions (val_main_v26 (F := Ideal) x0 x6 x7 x8 x9 x10 x11 x15) sliceFits_S512x512_S512x512
    (FloatOps.cmpfTotal (F := Ideal) (φ := .f32) .gt)
  obtain ⟨j, hj⟩ := hσ (i 0) (i 1)
  have hone : ∀ k, val_main_v44 (F := Ideal) k = (1 : EReal) := fun k => by
    rw [val_main_v44_apply, val_main_cst_7_apply]
    exact Ideal.ofBits_one_f32
  rw [eq_ix2 i]
  refine Routing.scatter_set_hit _ _ _ _ _ _ (fun k _ => hone k) (ix2 (i 0) j) ?_
  have hr := (i 0).isLt
  have hc := (i 1).isLt
  change (i 0).val < 512 at hr
  change (i 1).val < 512 at hc
  refine (Routing.scatter_lands2 (R := 512) (C := 512) (A := 512) (B := 512) scatter_S512x512_S512x512x2_S512x512_n_01_01_2 rfl rfl rfl _ (i 0) j
    (i 0) (i 1)).2 ⟨(congrArg BitVec.toInt (scatter_row_word (i 0) j)).trans (StableHlo.Predicate.toInt_ofNat_small _ (by omega)), ?_⟩
  exact (congrArg BitVec.toInt (scatter_col_word (i 0) j (i 1) ((hw (i 0) j).trans (by rw [hj])))).trans
    (StableHlo.Predicate.toInt_ofNat_small _ (by omega))

/-- The masked adjacency is the adjacency. -/
theorem masked_adjacency (i : S512x512.Idx) : val_main_v46 (F := Ideal) x0 x6 x7 x8 x9 x10 x11 x15 i = val_main_v23 (F := Ideal) x0 x6 x7 x8 x9 x10 x11 i := by
  rw [val_main_v46_apply, mask_one]
  exact mul_one (M := EReal) _

end Cert.GraphHeads

end
-- ==== Proof.RefValue.lean ====
/- The reference computes the specification: its result, read at a batch, a time and a head, is `result` of that batch's
   series and of the adjacency. -/
module

public import proofs.«01_k».proof.Proof.Spec
public import proofs.«01_k».proof.Proof.Mask

@[expose] public section

noncomputable section

open scoped BigOperators

namespace Cert.GraphHeads

open Idealize.ShloMosaic Idealize.ShloMosaic.ValueIdx Cert.ReferenceIdeal Cert.ReferenceIdeal.Gen Cert.ReferenceIdeal.Read

/-- A rectangle by row and column. -/
def table {m n : Nat} (a : (⟨2, ![m, n]⟩ : Shape).Idx → EReal) (i : Fin m) (j : Fin n) : EReal := a (ix2 i j)

/-- A vector by position. -/
def entry {n : Nat} (a : (⟨1, ![n]⟩ : Shape).Idx → EReal) (i : Fin n) : EReal := a (ix1 i)

/-- One batch of the series, by node and time. -/
def batch {B m n : Nat} (a : (⟨3, ![B, m, n]⟩ : Shape).Idx → EReal) (b : Fin B) (i : Fin m) (j : Fin n) : EReal := a (ix3 b i j)

/-- The adjacency of the two embedding tables. -/
def adjOf (x6 x7 : (⟨2, ![512, 16]⟩ : Shape).Idx → EReal) (x8 : (⟨2, ![16, 16]⟩ : Shape).Idx → EReal) (x9 : (⟨1, ![16]⟩ : Shape).Idx → EReal)
    (x10 : (⟨2, ![16, 16]⟩ : Shape).Idx → EReal) (x11 : (⟨1, ![16]⟩ : Shape).Idx → EReal) : Fin 512 → Fin 512 → EReal :=
  adjacency (nodeVec (table x6) (table x8) (entry x9)) (nodeVec (table x7) (table x10) (entry x11))

variable {x0 : (⟨S512, .i32⟩ : BufTy).Contents (Elt Ideal)} {x5 : (⟨S16x512x2048, .f32⟩ : BufTy).Contents (Elt Ideal)}
  {x6 x7 : (⟨S512x16, .f32⟩ : BufTy).Contents (Elt Ideal)}
  {x8 : (⟨S16x16, .f32⟩ : BufTy).Contents (Elt Ideal)} {x9 : (⟨S16, .f32⟩ : BufTy).Contents (Elt Ideal)}
  {x10 : (⟨S16x16, .f32⟩ : BufTy).Contents (Elt Ideal)} {x11 : (⟨S16, .f32⟩ : BufTy).Contents (Elt Ideal)}
  {x12 : (⟨S2048x1, .f32⟩ : BufTy).Contents (Elt Ideal)} {x13 : (⟨S1, .f32⟩ : BufTy).Contents (Elt Ideal)}
  {x14 : (⟨S1x8x1, .f32⟩ : BufTy).Contents (Elt Ideal)} {x15 : (⟨S512x512, .f32⟩ : BufTy).Contents (Elt Ideal)}

/-- The first table's node vectors. -/
theorem ref_nodeVec_first (h : IsArange x0) (i : S512x16.Idx) :
    val_main_v7 (F := Ideal) x0 x6 x8 x9 i = nodeVec (table x6) (table x8) (entry x9) (i 0) (i 1) := by
  rw [val_main_v7_apply, val_main_v6_apply, val_main_v5_apply, val_main_cst_apply, val_main_v4_apply, val_main_v1_apply, val_main_v3_apply,
    val_main_v2_apply, take_first h]
  unfold nodeVec table entry slope
  have e1 : ∀ k, lidx_main_v1 i k = ix2 (i 0) k := fun k => by funext a; match a with | ⟨0, _⟩ => rfl | ⟨1, _⟩ => rfl
  have e2 : ∀ k, ridx_main_v1 i k = ix2 k (i 1) := fun k => by funext a; match a with | ⟨0, _⟩ => rfl | ⟨1, _⟩ => rfl
  have e3 : idx_main_v2 (idx_main_v3 i) = ix1 (i 1) := by funext a; match a with | ⟨0, _⟩ => rfl
  simp only [e1, e2, e3]
  rfl

/-- The second table's node vectors: the same function of the second table. -/
theorem ref_nodeVec_second (h : IsArange x0) (i : S512x16.Idx) :
    val_main_v15 (F := Ideal) x0 x7 x10 x11 i = nodeVec (table x7) (table x10) (entry x11) (i 0) (i 1) :=
  (rfl : val_main_v15 (F := Ideal) x0 x7 x10 x11 i = val_main_v7 (F := Ideal) x0 x7 x10 x11 i).trans (ref_nodeVec_first h i)

/-- The reference's masked adjacency. -/
theorem ref_adjacency (h : IsArange x0) (i : S512x512.Idx) :
    val_main_v46 (F := Ideal) x0 x6 x7 x8 x9 x10 x11 x15 i = adjOf x6 x7 x8 x9 x10 x11 (i 0) (i 1) := by
  rw [masked_adjacency, val_main_v23_apply, val_main_v22_apply, val_main_v21_apply, val_main_cst_1_apply, val_main_v20_apply, val_main_v17_apply,
    val_main_v19_apply]
  have e1 : ∀ k, val_main_v7 (F := Ideal) x0 x6 x8 x9 (lidx_main_v17 i k) * val_main_v16 (F := Ideal) x0 x7 x10 x11 (ridx_main_v17 i k)
      = nodeVec (table x6) (table x8) (entry x9) (i 0) k * nodeVec (table x7) (table x10) (entry x11) (i 1) k := fun k => by
    rw [val_main_v16_apply, ref_nodeVec_first h, ref_nodeVec_second h]
    rfl
  have e2 : ∀ k, val_main_v15 (F := Ideal) x0 x7 x10 x11 (lidx_main_v19 i k) * val_main_v18 (F := Ideal) x0 x6 x8 x9 (ridx_main_v19 i k)
      = nodeVec (table x6) (table x8) (entry x9) (i 1) k * nodeVec (table x7) (table x10) (entry x11) (i 0) k := fun k => by
    rw [val_main_v18_apply, ref_nodeVec_first h, ref_nodeVec_second h, EReal.mul_comm]
    rfl
  simp only [e1, e2]
  rfl

/-- The features, one row per batch and node. -/
theorem ref_feature (b : Fin 16) (n : Fin 512) (j : S8192x1.Idx) (hj : (j 0).val = b.val * 512 + n.val) :
    val_main_v52 (F := Ideal) x5 x12 x13 j = feature (batch x5 b) (fun s => table x12 s 0) (entry x13 0) n := by
  rw [val_main_v52_apply, val_main_v51_apply, val_main_v48_apply, val_main_v50_apply, val_main_v49_apply]
  unfold feature batch table entry
  have e1 : ∀ k : Fin 2048, val_main_v47 (F := Ideal) x5 (lidx_main_v48 j k) * x12 (ridx_main_v48 j k) = x5 (ix3 b n k) * x12 (ix2 k 0) := fun k => by
    rw [val_main_v47_apply]
    have hb := b.isLt
    have hn := n.isLt
    have hk := k.isLt
    congr 2
    · funext a
      match a with
      | ⟨0, _⟩ => exact Fin.ext (by show ((j 0).val * 2048 + k.val) / 1048576 = b.val; omega)
      | ⟨1, _⟩ => exact Fin.ext (by show ((j 0).val * 2048 + k.val) / 2048 % 512 = n.val; omega)
      | ⟨2, _⟩ => exact Fin.ext (by show ((j 0).val * 2048 + k.val) % 2048 = k.val; omega)
    · funext a
      match a with
      | ⟨0, _⟩ => rfl
      | ⟨1, _⟩ => exact Subsingleton.elim (α := Fin 1) _ _
  have e2 : idx_main_v49 (idx_main_v50 j) = ix1 0 := by funext a; match a with | ⟨0, _⟩ => rfl
  simp only [e1, e2]
  rfl

/-- The rectified features of a head. -/
theorem ref_rectified (b : Fin 16) (n : Fin 512) (g : Fin 8) :
    val_main_v57 (F := Ideal) x5 x12 x13 x14 (ix3 b n g)
      = max (batch x14 0 g 0 * feature (batch x5 b) (fun s => table x12 s 0) (entry x13 0) n) 0 := by
  have hb := b.isLt
  have hn := n.isLt
  have hg := g.isLt
  rw [val_main_v57_apply, val_main_v56_apply, val_main_v55_apply, val_main_v54_apply, val_main_call2_v0_apply, val_main_call2_cst_apply,
    Fin.sum_univ_one, val_main_v53_apply, ref_feature b n]
  · have e : lidx_main_v54 (idx_main_v55 (idx_main_v57 (ix3 b n g))) 0 = ix3 (0 : Fin 1) g (0 : Fin 1) := by
      funext a
      match a with
      | ⟨0, _⟩ => exact Subsingleton.elim (α := Fin 1) _ _
      | ⟨1, _⟩ => exact Fin.ext (by show ((b.val * 512 + n.val) * 8 + g.val) % 8 = g.val; omega)
      | ⟨2, _⟩ => rfl
    rw [e]
    exact congrArg (max _) Ideal.ofBits_zero_f32
  · show ((((((b.val * 512 + n.val) * 8 + g.val) / 4096) * 1 + 0) * 512 + (((b.val * 512 + n.val) * 8 + g.val) / 8 % 512)) * 1 + 0) / 1 = _
    omega

/-- The scores of one batch, by head and node. -/
abbrev scoresOf (x5 : (⟨3, ![16, 512, 2048]⟩ : Shape).Idx → EReal) (x12 : (⟨2, ![2048, 1]⟩ : Shape).Idx → EReal) (x13 : (⟨1, ![1]⟩ : Shape).Idx → EReal)
    (x14 : (⟨3, ![1, 8, 1]⟩ : Shape).Idx → EReal) (A : Fin 512 → Fin 512 → EReal) (b : Fin 16) : Fin 8 → Fin 512 → EReal :=
  score (fun g => batch x14 0 g 0) (feature (batch x5 b) (fun s => table x12 s 0) (entry x13 0)) A

/-- The reference's scores. -/
theorem ref_score (i : S16x512x8.Idx) (h : IsArange x0) :
    val_main_v59 (F := Ideal) x0 x5 x6 x7 x8 x9 x10 x11 x12 x13 x14 x15 i
      = scoresOf x5 x12 x13 x14 (adjOf x6 x7 x8 x9 x10 x11) (i 0) (i 2) (i 1) := by
  rw [val_main_v59_apply, val_main_v58_apply]
  unfold scoresOf score
  refine Finset.sum_congr rfl fun l _ => ?_
  rw [ref_adjacency h]
  have e : lidx_main_v58 (idx_main_v59 i) l = ix3 (i 0) l (i 2) := by
    funext a; match a with | ⟨0, _⟩ => rfl | ⟨1, _⟩ => rfl | ⟨2, _⟩ => rfl
  rw [e]
  exact congrArg (· * _) (ref_rectified (i 0) l (i 2))

/-- The reference's greatest scores. -/
theorem ref_top (i : S16x512.Idx) (h : IsArange x0) :
    val_main_v62 (F := Ideal) x0 x5 x6 x7 x8 x9 x10 x11 x12 x13 x14 x15 i
      = topScore (scoresOf x5 x12 x13 x14 (adjOf x6 x7 x8 x9 x10 x11) (i 0)) (i 1) := by
  have hred : S16x512x8.Reduces [2] S16x512 := by decide
  have e : val_main_v60 (F := Ideal) x0 x5 x6 x7 x8 x9 x10 x11 x12 x13 x14 x15 i
      = topScore (scoresOf x5 x12 x13 x14 (adjOf x6 x7 x8 x9 x10 x11) (i 0)) (i 1) := by
    unfold val_main_v60
    refine (Host.reduce_eq_fold_single (α := EReal) max _ _ reducesTo_S16x512x8_S16x512_d2 hred h_S_ i).trans ?_
    have f : (val_main_v59 (F := Ideal) x0 x5 x6 x7 x8 x9 x10 x11 x12 x13 x14 x15 ∘ hred.lift i)
        = fun g : Fin 8 => scoresOf x5 x12 x13 x14 (adjOf x6 x7 x8 x9 x10 x11) (i 0) g (i 1) := by
      funext g
      exact ref_score _ h
    exact congrArg (fun f' : Fin 8 → EReal => (Finset.univ : Finset (Fin 8)).fold max floorVal f') f
  rw [val_main_v62_apply, e, val_main_v61_apply, val_main_cst_9_apply]
  exact max_floor_topScore _ _

/-- The reference's exponentials. -/
theorem ref_exp (i : S16x512x8.Idx) (h : IsArange x0) :
    val_main_v66 (F := Ideal) x0 x5 x6 x7 x8 x9 x10 x11 x12 x13 x14 x15 i
      = expScore (scoresOf x5 x12 x13 x14 (adjOf x6 x7 x8 x9 x10 x11) (i 0)) (i 2) (i 1) := by
  rw [val_main_v66_apply, val_main_v65_apply, val_main_v64_apply, val_main_v63_apply, ref_score i h, ref_top _ h]
  rfl

/-- The reference's weights. -/
theorem ref_weight (i : S16x512x8.Idx) (h : IsArange x0) :
    val_main_v70 (F := Ideal) x0 x5 x6 x7 x8 x9 x10 x11 x12 x13 x14 x15 i
      = weight (scoresOf x5 x12 x13 x14 (adjOf x6 x7 x8 x9 x10 x11) (i 0)) (i 2) (i 1) := by
  rw [val_main_v70_apply, val_main_v69_apply, val_main_v68_apply, val_main_v67_apply, val_main_cst_10_apply, ref_exp i h]
  have z : FloatOps.ofBits (F := Ideal) .f32 0x00000000#32 = (0 : EReal) := Ideal.ofBits_zero_f32
  rw [z]
  unfold weight
  refine congrArg (Ideal.div _) ((zero_add (M := EReal) _).trans (Finset.sum_congr rfl fun g _ => ?_))
  exact ref_exp _ h

/-- THE REFERENCE'S RESULT. -/
theorem ref_result (i : S16x2048x8.Idx) (h : IsArange x0) :
    val_main_v71 (F := Ideal) x0 x5 x6 x7 x8 x9 x10 x11 x12 x13 x14 x15 i
      = result (batch x5 (i 0)) (fun s => table x12 s 0) (entry x13 0) (fun g => batch x14 0 g 0) (adjOf x6 x7 x8 x9 x10 x11) (i 1) (i 2) := by
  rw [val_main_v71_apply]
  unfold result headSeries
  refine Finset.sum_congr rfl fun m _ => ?_
  rw [ref_weight _ h]
  refine congrArg₂ (· * ·) ?_ rfl
  exact congrArg x5 (by funext a; match a with | ⟨0, _⟩ => rfl | ⟨1, _⟩ => rfl | ⟨2, _⟩ => rfl)

/-- Equal arguments have equal reference results. -/
theorem ref_congr {y0 : (⟨S512, .i32⟩ : BufTy).Contents (Elt Ideal)} {y5 : (⟨S16x512x2048, .f32⟩ : BufTy).Contents (Elt Ideal)}
    {y6 y7 : (⟨S512x16, .f32⟩ : BufTy).Contents (Elt Ideal)} {y8 : (⟨S16x16, .f32⟩ : BufTy).Contents (Elt Ideal)}
    {y9 : (⟨S16, .f32⟩ : BufTy).Contents (Elt Ideal)} {y10 : (⟨S16x16, .f32⟩ : BufTy).Contents (Elt Ideal)}
    {y11 : (⟨S16, .f32⟩ : BufTy).Contents (Elt Ideal)} {y12 : (⟨S2048x1, .f32⟩ : BufTy).Contents (Elt Ideal)}
    {y13 : (⟨S1, .f32⟩ : BufTy).Contents (Elt Ideal)} {y14 : (⟨S1x8x1, .f32⟩ : BufTy).Contents (Elt Ideal)}
    {y15 : (⟨S512x512, .f32⟩ : BufTy).Contents (Elt Ideal)} (e0 : y0 = x0) (e5 : y5 = x5) (e6 : y6 = x6) (e7 : y7 = x7) (e8 : y8 = x8)
    (e9 : y9 = x9) (e10 : y10 = x10) (e11 : y11 = x11) (e12 : y12 = x12) (e13 : y13 = x13) (e14 : y14 = x14) (e15 : y15 = x15) :
    val_main_v71 (F := Ideal) y0 y5 y6 y7 y8 y9 y10 y11 y12 y13 y14 y15 = val_main_v71 (F := Ideal) x0 x5 x6 x7 x8 x9 x10 x11 x12 x13 x14 x15 := by
  subst e0 e5 e6 e7 e8 e9 e10 e11 e12 e13 e14 e15
  rfl

end Cert.GraphHeads

end
-- ==== Proof.KernelBlock.lean ====
/- The kernel's vector expressions, read one element at a time: each is a function of the specification. -/
module

public import proofs.«01_k».proof.Proof.RefValue
public import proofs.«01_k».proof.Proof.Gen.KernelIdeal.Value
public import Idealize.ShloMosaic.Lib.Pointwise

@[expose] public section

noncomputable section

open scoped BigOperators

namespace Cert.GraphHeads

open Idealize.ShloMosaic Cert.KernelIdeal Cert.KernelIdeal.Gen

/-- A rectangle by row and column, at the index the kernel's reads name. -/
theorem table_eq {m n : Nat} (a : (⟨2, ![m, n]⟩ : Shape).Idx → EReal) (i : Fin m) (j : Fin n) : table a i j = a (ix2 i j) :=
  congrArg a (ix2_eq_valueIdx i j).symm

/-- One batch of a series, at the index the kernel's reads name. -/
theorem batch_eq {B m n : Nat} (a : (⟨3, ![B, m, n]⟩ : Shape).Idx → EReal) (b : Fin B) (i : Fin m) (j : Fin n) :
    batch a b i j = a (ix3 b i j) :=
  congrArg a (ix3_eq_valueIdx b i j).symm

/-- A sum over 2048 times is the sum over the first 1024 plus the sum over the last 1024. -/
theorem sum_halves (f : Fin 2048 → EReal) :
    ∑ s : Fin 1024, f ⟨s.val, by omega⟩ + ∑ s : Fin 1024, f ⟨1024 + s.val, by omega⟩ = ∑ s, f s :=
  (Fin.sum_univ_add (M := EReal) (a := 1024) (b := 1024) f).symm

/-- What the first grid point stores in the scratch: the unmasked adjacency of the two node tables. -/
theorem block_adjacency (e1 : Vec Ideal S512x16 .f32) (w1 : Vec Ideal S16x16 .f32) (c1 : Vec Ideal S1x16 .f32)
    (e2 : Vec Ideal S512x16 .f32) (w2 : Vec Ideal S16x16 .f32) (c2 : Vec Ideal S1x16 .f32) (i j : Fin 512) :
    k0_pay2 (F := Ideal) e1 w1 c1 e2 w2 c2 (ix2 i j)
      = adjacency (nodeVec (table e1) (table w1) (table c1 0)) (nodeVec (table e2) (table w2) (table c2 0)) i j := by
  unfold adjacency products nodeVec slope
  simp only [table_eq]
  unfold k0_pay2
  pointwise

/-- The exponentials of the scores, per batch of the block, head and node. -/
theorem block_exp (x : Vec Ideal S4x512x2048 .f32) (w : Vec Ideal S2048x1 .f32) (c : Vec Ideal S1x1 .f32) (sel : Vec Ideal S4x8x1 .f32)
    (A : Vec Ideal S512x512 .f32) (b : Fin 4) (g : Fin 8) (m : Fin 512) :
    k0_pay3 (F := Ideal) x w c sel A (ix3 b g m)
      = expScore (score (fun h => batch sel b h 0) (feature (batch x b) (fun s => table w s 0) (table c 0 0)) (table A)) g m := by
  unfold expScore topScore score feature floorVal
  simp only [table_eq, batch_eq, ← sum_halves]
  unfold k0_pay3
  pointwise

/-- The sums of those exponentials over the heads. -/
theorem block_sum (x : Vec Ideal S4x512x2048 .f32) (w : Vec Ideal S2048x1 .f32) (c : Vec Ideal S1x1 .f32) (sel : Vec Ideal S4x8x1 .f32)
    (A : Vec Ideal S512x512 .f32) (b : Fin 4) (m : Fin 512) :
    k0_pay4 (F := Ideal) x w c sel A (ix2 b m) = ∑ g : Fin 8, k0_pay3 (F := Ideal) x w c sel A (ix3 b g m) := by
  unfold k0_pay4
  pointwise

/-- The weights: an exponential over its sum. -/
theorem block_weight (x : Vec Ideal S4x512x2048 .f32) (w : Vec Ideal S2048x1 .f32) (c : Vec Ideal S1x1 .f32) (sel : Vec Ideal S4x8x1 .f32)
    (A : Vec Ideal S512x512 .f32) (b : Fin 4) (g : Fin 8) (m : Fin 512) :
    k0_pay5 (F := Ideal) (k0_pay3 x w c sel A) (k0_pay4 x w c sel A) (ix3 b g m)
      = weight (score (fun h => batch sel b h 0) (feature (batch x b) (fun s => table w s 0) (table c 0 0)) (table A)) g m := by
  have e : k0_pay5 (F := Ideal) (k0_pay3 x w c sel A) (k0_pay4 x w c sel A) (ix3 b g m)
      = Ideal.div (k0_pay3 (F := Ideal) x w c sel A (ix3 b g m)) (k0_pay4 (F := Ideal) x w c sel A (ix2 b m)) := by
    unfold k0_pay5
    pointwise
  rw [e, block_sum]
  unfold weight
  simp only [block_exp]

/-- One batch of the block averaged by its weights: the shape all four stored results have, `u` the batch's weights and `y` its series. -/
def averaged (u : Vec Ideal S4x8x512 .f32) (b : Fin 4) (y : Fin 512 → Fin 2048 → EReal) (s : Fin 2048) (g : Fin 8) : EReal :=
  ∑ m : Fin 512, u (ix3 b g m) * y m s

/-- The first batch's stored result. -/
theorem block_out_first (p : Vec Ideal S4x8x512 .f32) (q : Vec Ideal S4x512 .f32) (y : Vec Ideal S1x512x2048 .f32) (s : Fin 2048) (g : Fin 8) :
    k0_pay6 (F := Ideal) p q y (ix3 0 s g) = averaged (k0_pay5 (F := Ideal) p q) 0 (batch y 0) s g := by
  unfold averaged
  simp only [batch_eq]
  unfold k0_pay6
  pointwise

/-- The second batch's stored result. -/
theorem block_out_second (p : Vec Ideal S4x8x512 .f32) (q : Vec Ideal S4x512 .f32) (y : Vec Ideal S1x512x2048 .f32) (s : Fin 2048) (g : Fin 8) :
    k0_pay7 (F := Ideal) p q y (ix3 0 s g) = averaged (k0_pay5 (F := Ideal) p q) 1 (batch y 0) s g := by
  unfold averaged
  simp only [batch_eq]
  unfold k0_pay7
  pointwise

/-- The third batch's stored result. -/
theorem block_out_third (p : Vec Ideal S4x8x512 .f32) (q : Vec Ideal S4x512 .f32) (y : Vec Ideal S1x512x2048 .f32) (s : Fin 2048) (g : Fin 8) :
    k0_pay8 (F := Ideal) p q y (ix3 0 s g) = averaged (k0_pay5 (F := Ideal) p q) 2 (batch y 0) s g := by
  unfold averaged
  simp only [batch_eq]
  unfold k0_pay8
  pointwise

/-- The fourth batch's stored result, whose weights are sliced out first. -/
theorem block_out_fourth (p : Vec Ideal S4x8x512 .f32) (q : Vec Ideal S4x512 .f32) (y : Vec Ideal S1x512x2048 .f32) (s : Fin 2048) (g : Fin 8) :
    k0_pay1 (F := Ideal) (k0_pay9 (F := Ideal) p q) y (ix3 0 s g) = averaged (k0_pay5 (F := Ideal) p q) 3 (batch y 0) s g := by
  unfold averaged
  simp only [batch_eq]
  unfold k0_pay1 k0_pay9
  pointwise

end Cert.GraphHeads

end
-- ==== Proof.KernelValue.lean ====
/- The kernel computes the specification: what each grid point stores, and the result array after the run. -/
module

public import proofs.«01_k».proof.Proof.KernelBlock
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open scoped BigOperators

namespace Cert.GraphHeads

open Idealize.ShloMosaic Idealize.ShloMosaic.TcCoe Cert.KernelIdeal Cert.KernelIdeal.Gen

/-- What a grid point computes from its block of four batches: the specification of each batch, with the adjacency `A`. -/
def pointOut (x : Vec Ideal S4x512x2048 .f32) (w : Vec Ideal S2048x1 .f32) (c : Vec Ideal S1x1 .f32) (sel : Vec Ideal S4x8x1 .f32)
    (A : Vec Ideal S512x512 .f32) (y : S4x2048x8.Idx) : EReal :=
  result (batch x (y 0)) (fun s => table w s 0) (table c 0 0) (fun h => batch sel (y 0) h 0) (table A) (y 1) (y 2)

/-- One batch loaded on its own is that batch of the block. -/
theorem batch_load (x : Vec Ideal S4x512x2048 .f32) (b : Fin 4)
    (inb : ∀ a, (![b.val, 0, 0] : Fin 3 → Nat) a + (![1, 512, 2048] : Fin 3 → Nat) a ≤ S4x512x2048.size a) :
    batch (View.ld x (Rect.unit (s := S4x512x2048) ![b.val, 0, 0] ![1, 512, 2048] inb)) 0 = batch x b := by
  funext n s
  simp only [batch_eq]
  refine congrArg x (funext fun a => Fin.ext ?_)
  match a with
  | ⟨0, _⟩ => exact Nat.add_zero _
  | ⟨1, _⟩ => show 0 + 1 * n.val = n.val; omega
  | ⟨2, _⟩ => show 0 + 1 * s.val = s.val; omega

/-- The weights' average of one loaded batch is the specification's result for that batch. -/
theorem averaged_eq (x : Vec Ideal S4x512x2048 .f32) (w : Vec Ideal S2048x1 .f32) (c : Vec Ideal S1x1 .f32) (sel : Vec Ideal S4x8x1 .f32)
    (A : Vec Ideal S512x512 .f32) (b : Fin 4)
    (inb : ∀ a, (![b.val, 0, 0] : Fin 3 → Nat) a + (![1, 512, 2048] : Fin 3 → Nat) a ≤ S4x512x2048.size a)
    (y : S4x2048x8.Idx) (z : S1x2048x8.Idx) (h0 : (y 0).val = b.val + (z 0).val) (h1 : (y 1).val = 0 + (z 1).val)
    (h2 : (y 2).val = 0 + (z 2).val) :
    averaged (k0_pay5 (F := Ideal) (k0_pay3 x w c sel A) (k0_pay4 x w c sel A)) b
        (batch (View.ld x (Rect.unit (s := S4x512x2048) ![b.val, 0, 0] ![1, 512, 2048] inb)) 0) (z 1) (z 2)
      = pointOut x w c sel A y := by
  have hz : (z 0).val < 1 := (z 0).isLt
  have e0 : y 0 = b := Fin.ext (by omega)
  have e1 : y 1 = z 1 := Fin.ext (by omega)
  have e2 : y 2 = z 2 := Fin.ext (by omega)
  unfold averaged pointOut result headSeries
  rw [batch_load, e0, e1, e2]
  exact Finset.sum_congr rfl fun n _ => (congrArg (· * _) (block_weight x w c sel A b (z 2) n)).trans (EReal.mul_comm _ _)

/-- A stored index is a time and a head. -/
theorem store_index (z : S1x2048x8.Idx) : z = ix3 0 (z 1) (z 2) := by
  funext a
  match a with
  | ⟨0, _⟩ => exact Fin.ext (Nat.lt_one_iff.1 (z 0).isLt)
  | ⟨1, _⟩ => rfl
  | ⟨2, _⟩ => rfl

/-- The four stores of a grid point leave the specification of the four batches. -/
theorem four_stores (x : Vec Ideal S4x512x2048 .f32) (w : Vec Ideal S2048x1 .f32) (c : Vec Ideal S1x1 .f32) (sel : Vec Ideal S4x8x1 .f32)
    (A : Vec Ideal S512x512 .f32) (y : S4x2048x8.Idx) :
    View.canon (Val := Elt Ideal) (s := S4x2048x8) (e := .f32)
      [⟨Rect.unit ![3, 0, 0] ![1, 2048, 8] inb_S4x2048x8_S1x2048x8_3_0_0,
          k0_pay1 (F := Ideal) (k0_pay9 (F := Ideal) (k0_pay3 x w c sel A) (k0_pay4 x w c sel A))
            (View.ld x (Rect.unit ![3, 0, 0] ![1, 512, 2048] inb_S4x512x2048_S1x512x2048_3_0_0))⟩,
        ⟨Rect.unit ![2, 0, 0] ![1, 2048, 8] inb_S4x2048x8_S1x2048x8_2_0_0,
          k0_pay8 (F := Ideal) (k0_pay3 x w c sel A) (k0_pay4 x w c sel A)
            (View.ld x (Rect.unit ![2, 0, 0] ![1, 512, 2048] inb_S4x512x2048_S1x512x2048_2_0_0))⟩,
        ⟨Rect.unit ![1, 0, 0] ![1, 2048, 8] inb_S4x2048x8_S1x2048x8_1_0_0,
          k0_pay7 (F := Ideal) (k0_pay3 x w c sel A) (k0_pay4 x w c sel A)
            (View.ld x (Rect.unit ![1, 0, 0] ![1, 512, 2048] inb_S4x512x2048_S1x512x2048_1_0_0))⟩,
        ⟨Rect.unit ![0, 0, 0] ![1, 2048, 8] inb_S4x2048x8_S1x2048x8_0_0_0,
          k0_pay6 (F := Ideal) (k0_pay3 x w c sel A) (k0_pay4 x w c sel A)
            (View.ld x (Rect.unit ![0, 0, 0] ![1, 512, 2048] inb_S4x512x2048_S1x512x2048_0_0_0))⟩] y
      = pointOut x w c sel A y := by
  canon_tiles z hz
  · exact ((congrArg _ (store_index z)).trans (block_out_fourth _ _ _ _ _)).trans (averaged_eq x w c sel A 3 _ y z (by omega) (by omega) (by omega))
  · exact ((congrArg _ (store_index z)).trans (block_out_third _ _ _ _ _)).trans (averaged_eq x w c sel A 2 _ y z (by omega) (by omega) (by omega))
  · exact ((congrArg _ (store_index z)).trans (block_out_second _ _ _ _ _)).trans (averaged_eq x w c sel A 1 _ y z (by omega) (by omega) (by omega))
  · exact ((congrArg _ (store_index z)).trans (block_out_first _ _ _ _ _)).trans (averaged_eq x w c sel A 0 _ y z (by omega) (by omega) (by omega))

variable (m : (ℓ : Loc nD τ sig) → Buf (Elt Ideal) ℓ) (c : Dev nD)

/-- The first point fills the scratch with the adjacency of its tables. -/
theorem scratch_written (t : Fin cfg0.N) (h : t.val % 4 = 0) :
    (outsAt0 m c t.val t.isLt).2 = k0_pay2 (F := Ideal) (iblk m c 0 t) (iblk m c 2 t) (iblk m c 3 t) (iblk m c 1 t) (iblk m c 4 t) (iblk m c 5 t) := by
  rw [outsAt0_A m c t h]; frame_out

/-- The other points leave the scratch as it was. -/
theorem scratch_kept (t : Fin cfg0.N) (h : ¬t.val % 4 = 0) :
    (outsAt0 m c t.val t.isLt).2 = (outsAt0 m c (t.val - 1) (Nat.lt_of_le_of_lt (Nat.sub_le _ _) t.isLt)).2 := by
  rw [outsAt0_B m c t h]; rfl

/-- What a point leaves in the result's block, over the scratch as the point leaves it. -/
theorem point_result (t : Fin cfg0.N) (y : S4x2048x8.Idx) :
    (outsAt0 m c t.val t.isLt).1 y
      = pointOut (iblk m c 9 t) (iblk m c 6 t) (iblk m c 7 t) (iblk m c 8 t) (outsAt0 m c t.val t.isLt).2 y := by
  by_cases h : t.val % 4 = 0
  · rw [scratch_written m c t h, outsAt0_A m c t h]
    frame_out
    exact four_stores _ _ _ _ _ y
  · rw [scratch_kept m c t h, outsAt0_B m c t h]
    generalize (outsAt0 m c (t.val - 1) (Nat.lt_of_le_of_lt (Nat.sub_le _ _) t.isLt)).2 = A
    frame_out
    simp only [read_unread_whole]
    exact four_stores _ _ _ _ _ y

/-- Every point finds, or leaves, the first point's adjacency in the scratch. -/
theorem scratch_first (t : Fin cfg0.N) :
    ∃ t₀ : Fin cfg0.N, (outsAt0 m c t.val t.isLt).2
      = k0_pay2 (F := Ideal) (iblk m c 0 t₀) (iblk m c 2 t₀) (iblk m c 3 t₀) (iblk m c 1 t₀) (iblk m c 4 t₀) (iblk m c 5 t₀) :=
  ⟨_, Pipeline.eq_of_write_hold (fun n h => (outsAt0 m c n h).2) 4
    (fun t => k0_pay2 (F := Ideal) (iblk m c 0 t) (iblk m c 2 t) (iblk m c 3 t) (iblk m c 1 t) (iblk m c 4 t) (iblk m c 5 t))
    (scratch_written m c) (scratch_kept m c) t⟩

/-- Where each window's block lies in its array: only the series' and the result's blocks move, four batches a point. -/
theorem window_places (t : Fin cfg0.N) :
    (win0_0.index t = ![0, 0] ∧ win0_1.index t = ![0, 0] ∧ win0_2.index t = ![0, 0] ∧ win0_3.index t = ![0, 0] ∧ win0_4.index t = ![0, 0])
      ∧ (win0_5.index t = ![0, 0] ∧ win0_6.index t = ![0, 0] ∧ win0_7.index t = ![0, 0] ∧ win0_8.index t = ![0, 0, 0])
      ∧ win0_9.index t = ![t.val, 0, 0] ∧ win0_10.index t = ![t.val, 0, 0] :=
  (by decide +kernel : ∀ t : Fin grid0.N,
    (win0_0.index t = ![0, 0] ∧ win0_1.index t = ![0, 0] ∧ win0_2.index t = ![0, 0] ∧ win0_3.index t = ![0, 0] ∧ win0_4.index t = ![0, 0])
      ∧ (win0_5.index t = ![0, 0] ∧ win0_6.index t = ![0, 0] ∧ win0_7.index t = ![0, 0] ∧ win0_8.index t = ![0, 0, 0])
      ∧ win0_9.index t = ![t.val, 0, 0] ∧ win0_10.index t = ![t.val, 0, 0]) t

/-- The tables' blocks are the tables. -/
theorem table_blocks (t : Fin cfg0.N) :
    table (m := 512) (n := 16) (iblk m c 0 t) = table (m := 512) (n := 16) (m ((c : Thread nD τ).loc main_arg6))
      ∧ table (m := 512) (n := 16) (iblk m c 1 t) = table (m := 512) (n := 16) (m ((c : Thread nD τ).loc main_arg7))
      ∧ table (m := 16) (n := 16) (iblk m c 2 t) = table (m := 16) (n := 16) (m ((c : Thread nD τ).loc main_arg8))
      ∧ table (m := 16) (n := 16) (iblk m c 4 t) = table (m := 16) (n := 16) (m ((c : Thread nD τ).loc main_arg10))
      ∧ table (m := 2048) (n := 1) (iblk m c 6 t) = table (m := 2048) (n := 1) (m ((c : Thread nD τ).loc main_arg12)) := by
  refine ⟨?_, ?_, ?_, ?_, ?_⟩ <;> (funext i j; simp only [table_eq]; blk_ext [iblk, V, window_places t])

/-- The biases' blocks are the bias vectors, laid out as one row. -/
theorem bias_blocks (t : Fin cfg0.N) :
    table (m := 1) (n := 16) (iblk m c 3 t) 0 = entry (n := 16) (m ((c : Thread nD τ).loc main_arg9))
      ∧ table (m := 1) (n := 16) (iblk m c 5 t) 0 = entry (n := 16) (m ((c : Thread nD τ).loc main_arg11))
      ∧ table (m := 1) (n := 1) (iblk m c 7 t) 0 = entry (n := 1) (m ((c : Thread nD τ).loc main_arg13)) := by
  refine ⟨?_, ?_, ?_⟩ <;>
    (funext i
     rw [table_eq]
     unfold entry
     rw [← ix1_eq_valueIdx]
     blk_simp [iblk, window_places t]
     entry_read
     pointwise
     blk_ext [iblk, V, window_places t])

/-- A point's block of the series is its four batches. -/
theorem series_block (t : Fin cfg0.N) (b : Fin 4) (b' : Fin 16) (hb : b'.val = t.val * 4 + b.val) :
    batch (B := 4) (m := 512) (n := 2048) (iblk m c 9 t) b
      = batch (B := 16) (m := 512) (n := 2048) (m ((c : Thread nD τ).loc main_arg5)) b' := by
  funext i j
  simp only [batch_eq]
  blk_ext [iblk, V, window_places t]

/-- Every batch of the selection's block is the one selection vector. -/
theorem selection_block (t : Fin cfg0.N) (b : Fin 4) (g : Fin 8) :
    batch (B := 4) (m := 8) (n := 1) (iblk m c 8 t) b g 0 = batch (B := 1) (m := 8) (n := 1) (m ((c : Thread nD τ).loc main_arg14)) 0 g 0 := by
  simp only [batch_eq]
  blk_simp [iblk, window_places t]
  entry_read
  pointwise
  blk_ext [iblk, V, window_places t]

/-- The scratch holds the adjacency of the launch's tables at every point. -/
theorem scratch_adjacency (t : Fin cfg0.N) :
    table (m := 512) (n := 512) (outsAt0 m c t.val t.isLt).2
      = adjOf (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  obtain ⟨t₀, h⟩ := scratch_first m c t
  obtain ⟨e0, e1, e2, e4, -⟩ := table_blocks m c t₀
  obtain ⟨e3, e5, -⟩ := bias_blocks m c t₀
  funext i j
  rw [h, table_eq]
  refine (block_adjacency _ _ _ _ _ _ i j).trans ?_
  unfold adjOf
  rw [e0, e1, e2, e3, e4, e5]

/-- Equal inputs have equal results. -/
theorem result_congr {x x' : Fin 512 → Fin 2048 → EReal} {w w' : Fin 2048 → EReal} {b b' : EReal} {sel sel' : Fin 8 → EReal}
    {A A' : Fin 512 → Fin 512 → EReal} {s s' : Fin 2048} {h h' : Fin 8} (ex : x = x') (ew : w = w') (eb : b = b') (es : sel = sel')
    (eA : A = A') (e1 : s = s') (e2 : h = h') : result x w b sel A s h = result x' w' b' sel' A' s' h' := by
  subst ex ew eb es eA e1 e2
  rfl

/-- The result array after the run: the specification of every batch, at every time and head. -/
theorem kernel_result :
    (dats m 0 c).arrAt 10 cfg0.N = fun i : S16x2048x8.Idx =>
      result (batch (B := 16) (m := 512) (n := 2048) (m ((c : Thread nD τ).loc main_arg5)) (i 0))
        (fun s => table (m := 2048) (n := 1) (m ((c : Thread nD τ).loc main_arg12)) s 0) (entry (n := 1) (m ((c : Thread nD τ).loc main_arg13)) 0)
        (fun g => batch (B := 1) (m := 8) (n := 1) (m ((c : Thread nD τ).loc main_arg14)) 0 g 0)
        (adjOf (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)))
        (i 1) (i 2) := by
  refine (dats m 0 c).arrAt_eq_of_covers 10 _ (by decide +kernel) fun t hf y => ?_
  blk_simp
  rw [after0_10]
  refine (point_result m c t _).trans ?_
  unfold pointOut
  obtain ⟨-, -, -, -, e6⟩ := table_blocks m c t
  obtain ⟨-, -, e7⟩ := bias_blocks m c t
  have p0 : ((win0_10.blk t).view.emb y 0).val = t.val * 4 + (y 0).val := by blk_simp [window_places t]
  have p1 : ((win0_10.blk t).view.emb y 1).val = (y 1).val := by blk_simp [window_places t]
  have p2 : ((win0_10.blk t).view.emb y 2).val = (y 2).val := by blk_simp [window_places t]
  exact result_congr (series_block m c t _ _ p0) (funext fun s => congrFun (congrFun e6 s) 0) (congrFun e7 0)
    (funext fun g => selection_block m c t _ g) (scratch_adjacency m c t) (Fin.ext p1.symm) (Fin.ext p2.symm)

end Cert.GraphHeads

end
-- ==== Proof.lean ====
/- The proof of the claims: every run's frame, and the kernel's result equal to the reference's. -/
module

public import proofs.«01_k».proof.Defs
public import proofs.«01_k».proof.Proof.Gen.Kernel.Frame
public import proofs.«01_k».proof.Proof.Gen.KernelIdeal.Value
public import proofs.«01_k».proof.Proof.Gen.Pre_idx_is_arange
public import proofs.«01_k».proof.Proof.Gen.ReferenceIdeal.Run
public import proofs.«01_k».proof.Proof.Gen.ReferenceIdeal.Read
public import proofs.«01_k».proof.Proof.KernelValue
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.SL.Sem

/-- The reference leaves its arguments as they were, whatever they hold, and declares no semaphore. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, element by element, when the node indices are 0, 1, …, 511. -/
theorem same_result : algebraic_KernelIdeal_ReferenceIdeal_pre_idx_is_arange := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, -, -, -, -, e5, e6, e7, e8, e9, e10, e11, e12, e13, e14, e15⟩ := hagree c
  refine (Cert.ReferenceIdeal.Read.val_main_v71_eq (F := Ideal) (launchContents m' c)).trans ?_
  refine Eq.trans ?_ (Cert.GraphHeads.kernel_result m c).symm
  refine (Cert.GraphHeads.ref_congr e0 e5 e6 e7 e8 e9 e10 e11 e12 e13 e14 e15).trans ?_
  funext i
  exact Cert.GraphHeads.ref_result i (Cert.GraphHeads.isArange_of_pre _ (congrFun (hpre c)))

theorem claim : Cert.Claim :=
  ⟨Cert.Kernel.Gen.facts, Cert.KernelIdeal.Gen.facts, Cert.ReferenceIdeal.Gen.facts, Cert.Pre_idx_is_arange.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, (trivial : preserves_Kernel_KernelIdeal), same_result⟩

end Cert.Proof

end
